-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x32x128x128 : Shape := ⟨4, ![16, 32, 128, 128]⟩
abbrev S512x128x128 : Shape := ⟨3, ![512, 128, 128]⟩
abbrev S32x128x128 : Shape := ⟨3, ![32, 128, 128]⟩
abbrev S128x32x128 : Shape := ⟨3, ![128, 32, 128]⟩
abbrev S64x32x128 : Shape := ⟨3, ![64, 32, 128]⟩
abbrev S32x1 : Shape := ⟨2, ![32, 1]⟩
abbrev S32x128 : Shape := ⟨2, ![32, 128]⟩
abbrev S32x127 : Shape := ⟨2, ![32, 127]⟩
abbrev S1x32x128 : Shape := ⟨3, ![1, 32, 128]⟩
abbrev S32x128x64 : Shape := ⟨3, ![32, 128, 64]⟩

abbrev nBuf : Space → Nat
  | .hbm => 11
  | .vmem => 18
  | .smem => 0
  | _ => 0

abbrev bufTy : (tb : Table) → Fin (tcTables nBuf tb) → BufTy
  | .hbm, ⟨0, _⟩ => ⟨S16x32x128x128, .f32⟩
  | .hbm, ⟨1, _⟩ => ⟨S16x32x128x128, .f32⟩
  | .hbm, ⟨2, _⟩ => ⟨S16x32x128x128, .f32⟩
  | .hbm, ⟨3, _⟩ => ⟨S16x32x128x128, .f32⟩
  | .hbm, ⟨4, _⟩ => ⟨S16x32x128x128, .f32⟩
  | .hbm, ⟨5, _⟩ => ⟨S512x128x128, .f32⟩
  | .hbm, ⟨6, _⟩ => ⟨S512x128x128, .f32⟩
  | .hbm, ⟨7, _⟩ => ⟨S512x128x128, .f32⟩
  | .hbm, ⟨8, _⟩ => ⟨S512x128x128, .f32⟩
  | .hbm, ⟨9, _⟩ => ⟨S512x128x128, .f32⟩
  | .hbm, ⟨10, _⟩ => ⟨S512x128x128, .f32⟩
  | .local _ .vmem, ⟨0, _⟩ => ⟨S32x128x128, .f32⟩
  | .local _ .vmem, ⟨1, _⟩ => ⟨S32x128x128, .f32⟩
  | .local _ .vmem, ⟨2, _⟩ => ⟨S32x128x128, .f32⟩
  | .local _ .vmem, ⟨3, _⟩ => ⟨S32x128x128, .f32⟩
  | .local _ .vmem, ⟨4, _⟩ => ⟨S32x128x128, .f32⟩
  | .local _ .vmem, ⟨5, _⟩ => ⟨S32x128x128, .f32⟩
  | .local _ .vmem, ⟨6, _⟩ => ⟨S32x128x128, .f32⟩
  | .local _ .vmem, ⟨7, _⟩ => ⟨S32x128x128, .f32⟩
  | .local _ .vmem, ⟨8, _⟩ => ⟨S32x128x128, .f32⟩
  | .local _ .vmem, ⟨9, _⟩ => ⟨S32x128x128, .f32⟩
  | .local _ .vmem, ⟨10, _⟩ => ⟨S32x128x128, .f32⟩
  | .local _ .vmem, ⟨11, _⟩ => ⟨S32x128x128, .f32⟩
  | .local _ .vmem, ⟨12, _⟩ => ⟨S128x32x128, .f32⟩
  | .local _ .vmem, ⟨13, _⟩ => ⟨S128x32x128, .f32⟩
  | .local _ .vmem, ⟨14, _⟩ => ⟨S128x32x128, .f32⟩
  | .local _ .vmem, ⟨15, _⟩ => ⟨S128x32x128, .f32⟩
  | .local _ .vmem, ⟨16, _⟩ => ⟨S64x32x128, .f32⟩
  | .local _ .vmem, ⟨17, _⟩ => ⟨S64x32x128, .f32⟩
  | _, _ => ⟨S16x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x32x128x128 : Shape := ⟨4, ![16, 32, 128, 128]⟩
abbrev S128x16x32x128 : Shape := ⟨4, ![128, 16, 32, 128]⟩
abbrev S16x32x128x1 : Shape := ⟨4, ![16, 32, 128, 1]⟩
abbrev S16x32x128 : Shape := ⟨3, ![16, 32, 128]⟩
abbrev S_ : Shape := ⟨0, ![]⟩
abbrev S1x16x32x128 : Shape := ⟨4, ![1, 16, 32, 128]⟩
abbrev S16x32x1 : Shape := ⟨3, ![16, 32, 1]⟩
abbrev S16x32x127 : Shape := ⟨3, ![16, 32, 127]⟩
abbrev S512x128x128 : Shape := ⟨3, ![512, 128, 128]⟩

abbrev nBuf : Space → Nat
  | .hbm => 75
  | .vmem => 0
  | .smem => 0
  | _ => 0

abbrev bufTy : (tb : Table) → Fin (tcTables nBuf tb) → BufTy
  | .hbm, ⟨0, _⟩ => ⟨S16x32x128x128, .f32⟩
  | .hbm, ⟨1, _⟩ => ⟨S16x32x128x128, .f32⟩
  | .hbm, ⟨2, _⟩ => ⟨S16x32x128x128, .f32⟩
  | .hbm, ⟨3, _⟩ => ⟨S16x32x128x128, .f32⟩
  | .hbm, ⟨4, _⟩ => ⟨S16x32x128x128, .f32⟩
  | .hbm, ⟨5, _⟩ => ⟨S128x16x32x128, .f32⟩
  | .hbm, ⟨6, _⟩ => ⟨S128x16x32x128, .f32⟩
  | .hbm, ⟨7, _⟩ => ⟨S128x16x32x128, .f32⟩
  | .hbm, ⟨8, _⟩ => ⟨S128x16x32x128, .f32⟩
  | .hbm, ⟨9, _⟩ => ⟨S128x16x32x128, .f32⟩
  | .hbm, ⟨10, _⟩ => ⟨S16x32x128x1, .f32⟩
  | .hbm, ⟨11, _⟩ => ⟨S16x32x128, .f32⟩
  | .hbm, ⟨12, _⟩ => ⟨S_, .f32⟩
  | .hbm, ⟨13, _⟩ => ⟨S16x32x128, .f32⟩
  | .hbm, ⟨14, _⟩ => ⟨S_, .f32⟩
  | .hbm, ⟨15, _⟩ => ⟨S128x16x32x128, .f32⟩
  | .hbm, ⟨16, _⟩ => ⟨S_, .i32⟩
  | .hbm, ⟨17, _⟩ => ⟨S128x16x32x128, .f32⟩
  | .hbm, ⟨18, _⟩ => ⟨S128x16x32x128, .f32⟩
  | .hbm, ⟨19, _⟩ => ⟨S128x16x32x128, .f32⟩
  | .hbm, ⟨20, _⟩ => ⟨S128x16x32x128, .f32⟩
  | .hbm, ⟨21, _⟩ => ⟨S128x16x32x128, .f32⟩
  | .hbm, ⟨22, _⟩ => ⟨S_, .i32⟩
  | .hbm, ⟨23, _⟩ => ⟨S16x32x128, .f32⟩
  | .hbm, ⟨24, _⟩ => ⟨S128x16x32x128, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x16x32x128, .f32⟩
  | .hbm, ⟨31, _⟩ => ⟨S16x32x128, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x16x32x128, .f32⟩
  | .hbm, ⟨36, _⟩ => ⟨S16x32x128, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x16x32x128, .f32⟩
  | .hbm, ⟨41, _⟩ => ⟨S16x32x128, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x16x32x128, .f32⟩
  | .hbm, ⟨46, _⟩ => ⟨S16x32x128, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x16x32x128, .f32⟩
  | .hbm, ⟨51, _⟩ => ⟨S16x32x128, .f32⟩
  | .hbm, ⟨52, _⟩ => ⟨S16x32x1, .f32⟩
  | .hbm, ⟨53, _⟩ => ⟨S_, .f32⟩
  | .hbm, ⟨54, _⟩ => ⟨S16x32x1, .f32⟩
  | .hbm, ⟨55, _⟩ => ⟨S16x32x127, .f32⟩
  | .hbm, ⟨56, _⟩ => ⟨S16x32x128, .f32⟩
  | .hbm, ⟨57, _⟩ => ⟨S16x32x127, .f32⟩
  | .hbm, ⟨58, _⟩ => ⟨S16x32x128, .f32⟩
  | .hbm, ⟨59, _⟩ => ⟨S16x32x128, .f32⟩
  | .hbm, ⟨60, _⟩ => ⟨S16x32x128, .f32⟩
  | .hbm, ⟨61, _⟩ => ⟨S16x32x128, .f32⟩
  | .hbm, ⟨62, _⟩ => ⟨S16x32x128, .f32⟩
  | .hbm, ⟨63, _⟩ => ⟨S16x32x128, .f32⟩
  | .hbm, ⟨64, _⟩ => ⟨S16x32x128, .f32⟩
  | .hbm, ⟨65, _⟩ => ⟨S16x32x128, .f32⟩
  | .hbm, ⟨66, _⟩ => ⟨S1x16x32x128, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S128x16x32x128, .f32⟩
  | .hbm, ⟨71, _⟩ => ⟨S_, .i32⟩
  | .hbm, ⟨72, _⟩ => ⟨S_, .i32⟩
  | .hbm, ⟨73, _⟩ => ⟨S16x32x128x128, .f32⟩
  | .hbm, ⟨74, _⟩ => ⟨S512x128x128, .f32⟩
  | _, _ => ⟨S16x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_c : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_v9_7 : Ref sig .tc := ⟨.hbm, 24, rfl⟩
abbrev main_while0c_c_8 : Ref sig .tc := ⟨.hbm, 25, rfl⟩
abbrev main_while0c_v12 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_c_1 : Ref sig .tc := ⟨.hbm, 29, rfl⟩
abbrev main_while0b_call0_v0 : Ref sig .tc := ⟨.hbm, 30, rfl⟩
abbrev main_while0b_v12 : Ref sig .tc := ⟨.hbm, 31, rfl⟩
abbrev main_while0b_call1_c : Ref sig .tc := ⟨.hbm, 32, rfl⟩
abbrev main_while0b_call1_c_0 : Ref sig .tc := ⟨.hbm, 33, rfl⟩
abbrev main_while0b_call1_c_1 : Ref sig .tc := ⟨.hbm, 34, rfl⟩
abbrev main_while0b_call1_v0 : Ref sig .tc := ⟨.hbm, 35, rfl⟩
abbrev main_while0b_v13 : Ref sig .tc := ⟨.hbm, 36, rfl⟩
abbrev main_while0b_call2_c : Ref sig .tc := ⟨.hbm, 37, rfl⟩
abbrev main_while0b_call2_c_0 : Ref sig .tc := ⟨.hbm, 38, rfl⟩
abbrev main_while0b_call2_c_1 : Ref sig .tc := ⟨.hbm, 39, rfl⟩
abbrev main_while0b_call2_v0 : Ref sig .tc := ⟨.hbm, 40, rfl⟩
abbrev main_while0b_v14 : Ref sig .tc := ⟨.hbm, 41, rfl⟩
abbrev main_while0b_call3_c : Ref sig .tc := ⟨.hbm, 42, rfl⟩
abbrev main_while0b_call3_c_0 : Ref sig .tc := ⟨.hbm, 43, rfl⟩
abbrev main_while0b_call3_c_1 : Ref sig .tc := ⟨.hbm, 44, rfl⟩
abbrev main_while0b_call3_v0 : Ref sig .tc := ⟨.hbm, 45, rfl⟩
abbrev main_while0b_v15 : Ref sig .tc := ⟨.hbm, 46, rfl⟩
abbrev main_while0b_call4_c : Ref sig .tc := ⟨.hbm, 47, rfl⟩
abbrev main_while0b_call4_c_0 : Ref sig .tc := ⟨.hbm, 48, rfl⟩
abbrev main_while0b_call4_c_1 : Ref sig .tc := ⟨.hbm, 49, rfl⟩
abbrev main_while0b_call4_v0 : Ref sig .tc := ⟨.hbm, 50, rfl⟩
abbrev main_while0b_v16 : Ref sig .tc := ⟨.hbm, 51, rfl⟩
abbrev main_while0b_v17 : Ref sig .tc := ⟨.hbm, 52, rfl⟩
abbrev main_while0b_cst_8 : Ref sig .tc := ⟨.hbm, 53, rfl⟩
abbrev main_while0b_v18 : Ref sig .tc := ⟨.hbm, 54, rfl⟩
abbrev main_while0b_v19 : Ref sig .tc := ⟨.hbm, 55, rfl⟩
abbrev main_while0b_v20 : Ref sig .tc := ⟨.hbm, 56, rfl⟩
abbrev main_while0b_v21 : Ref sig .tc := ⟨.hbm, 57, rfl⟩
abbrev main_while0b_v22 : Ref sig .tc := ⟨.hbm, 58, rfl⟩
abbrev main_while0b_v23 : Ref sig .tc := ⟨.hbm, 59, rfl⟩
abbrev main_while0b_v24 : Ref sig .tc := ⟨.hbm, 60, rfl⟩
abbrev main_while0b_v25 : Ref sig .tc := ⟨.hbm, 61, rfl⟩
abbrev main_while0b_v26 : Ref sig .tc := ⟨.hbm, 62, rfl⟩
abbrev main_while0b_v27 : Ref sig .tc := ⟨.hbm, 63, rfl⟩
abbrev main_while0b_v28 : Ref sig .tc := ⟨.hbm, 64, rfl⟩
abbrev main_while0b_v29 : Ref sig .tc := ⟨.hbm, 65, rfl⟩
abbrev main_while0b_call5_v0 : Ref sig .tc := ⟨.hbm, 66, rfl⟩
abbrev main_while0b_call5_c : Ref sig .tc := ⟨.hbm, 67, rfl⟩
abbrev main_while0b_call5_c_0 : Ref sig .tc := ⟨.hbm, 68, rfl⟩
abbrev main_while0b_call5_c_1 : Ref sig .tc := ⟨.hbm, 69, rfl⟩
abbrev main_while0b_v30 : Ref sig .tc := ⟨.hbm, 70, rfl⟩
abbrev main_while0b_c_9 : Ref sig .tc := ⟨.hbm, 71, rfl⟩
abbrev main_while0b_v31 : Ref sig .tc := ⟨.hbm, 72, rfl⟩
abbrev main_v10 : Ref sig .tc := ⟨.hbm, 73, rfl⟩
abbrev main_v11 : Ref sig .tc := ⟨.hbm, 74, rfl⟩

abbrev nD : Nat := 1
abbrev τ : Topo := Topo.v7x

variable {F : FTy → Type} [FloatOps F]

abbrev main_while0_count : Scf.Loop 32 := ⟨0#32, 128#32, 1#32⟩
-- ==== Proof.Math.lean ====
module

public import Idealize.ShloMosaic.Lib.Pipeline.Value
public import Idealize.ShloMosaic.Lib.ValueIdxCore
public import Idealize.ShloMosaic.PureOps.Ideal

@[expose] public section

noncomputable section

/-! # The recurrence on one channel

A column of 128 numbers, carried over the width.  Column `n + 1` is made of column `n`, of the entry above it, the entry
below it, and four gates. -/

namespace Cert.Recur

open Idealize.ShloMosaic Idealize.ShloMosaic.ValueIdx

variable {F : FTy → Type} [FloatOps F]

/-- The number both programs start from and use past the edges. -/
def zero : F .f32 := FloatOps.ofBits .f32 0x00000000#32

/-- The entry above `h`, zero over the first. -/
def above (p : Fin 128 → F .f32) (h : Fin 128) : F .f32 :=
  if e : h.val = 0 then zero else p ⟨h.val - 1, by omega⟩

/-- The entry below `h`, zero under the last. -/
def below (p : Fin 128 → F .f32) (h : Fin 128) : F .f32 :=
  if e : h.val = 127 then zero else p ⟨h.val + 1, by omega⟩

theorem above_zero (p : Fin 128 → F .f32) {h : Fin 128} (e : h.val = 0) : above p h = zero := dif_pos e
theorem above_succ (p : Fin 128 → F .f32) {h : Fin 128} (e : h.val ≠ 0) : above p h = p ⟨h.val - 1, by omega⟩ := dif_neg e
theorem below_last (p : Fin 128 → F .f32) {h : Fin 128} (e : h.val = 127) : below p h = zero := dif_pos e
theorem below_lt (p : Fin 128 → F .f32) {h : Fin 128} (e : h.val ≠ 127) : below p h = p ⟨h.val + 1, by omega⟩ := dif_neg e

/-- One step: the source and the three gates of this column, and the column before. -/
def next (s a b d p : Fin 128 → F .f32) (h : Fin 128) : F .f32 :=
  FloatOps.addf
    (FloatOps.addf (FloatOps.addf (s h) (FloatOps.mulf (a h) (above p h))) (FloatOps.mulf (b h) (p h)))
    (FloatOps.mulf (d h) (below p h))

/-- The column after `n` steps. -/
def column (s a b d : ℕ → Fin 128 → F .f32) : ℕ → Fin 128 → F .f32
  | 0 => fun _ => zero
  | n + 1 => next (s n) (a n) (b n) (d n) (column s a b d n)

/-- An argument array. -/
abbrev Arg (F : FTy → Type) : Type := (⟨4, ![16, 32, 128, 128]⟩ : Shape).Idx → F .f32

/-- One channel of an argument, by width first; a width past the last is taken around, and never asked for. -/
def lane (T : Arg F) (b : Fin 16) (c : Fin 32) : ℕ → Fin 128 → F .f32 := fun w h => T (ix4 b c h (Fin.ofNat 128 w))

theorem lane_eq (T : Arg F) (b : Fin 16) (c : Fin 32) (w : ℕ) (hw : w < 128) (h : Fin 128) :
    lane T b c w h = T (ix4 b c h ⟨w, hw⟩) := by
  have e : Fin.ofNat 128 w = ⟨w, hw⟩ := Fin.ext (Nat.mod_eq_of_lt hw)
  show T (ix4 b c h (Fin.ofNat 128 w)) = _
  rw [e]

/-- The source of a channel: the product of two arguments. -/
def source (X B : Arg F) (b : Fin 16) (c : Fin 32) : ℕ → Fin 128 → F .f32 :=
  fun w h => FloatOps.mulf (lane X b c w h) (lane B b c w h)

/-- Channel `(b, c)` after `n` steps. -/
def chan (X B G1 G2 G3 : Arg F) (b : Fin 16) (c : Fin 32) (n : ℕ) : Fin 128 → F .f32 :=
  column (source X B b c) (lane G1 b c) (lane G2 b c) (lane G3 b c) n

/-- The whole result: entry `(i, h, w)` is entry `h` of channel `(i / 32, i % 32)` after `w + 1` steps. -/
def result (X B G1 G2 G3 : Arg F) : (⟨3, ![512, 128, 128]⟩ : Shape).Idx → F .f32 := fun i =>
  chan X B G1 G2 G3 ⟨(i 0).val / 32, by have : (i 0).val < 512 := (i 0).isLt; omega⟩ ⟨(i 0).val % 32, by omega⟩
    ((i 2).val + 1) (i 1)

/-- Over the extended reals the two factors of the source may be exchanged. -/
theorem source_comm (X B : Arg Ideal) (b : Fin 16) (c : Fin 32) : source X B b c = source B X b c :=
  funext fun w => funext fun h => by exact mul_comm (lane X b c w h : EReal) (lane B b c w h : EReal)

theorem result_comm (X B G1 G2 G3 : Arg Ideal) : result X B G1 G2 G3 = result B X G1 G2 G3 := by
  funext i; unfold result chan; rw [source_comm]

end Cert.Recur

end
-- ==== Proof.RefStep.lean ====
module

public import proofs.«01_k».proof.Proof.Gen.ReferenceIdeal.Run
public import proofs.«01_k».proof.Proof.Math
public import Idealize.ShloMosaic.Lib.DynamicIndex

@[expose] public section

set_option maxRecDepth 16384

noncomputable section

/-! # One trip of the reference's scan, read entry by entry -/

namespace Cert.ReferenceIdeal.Hand

open Idealize.ShloMosaic Idealize.ShloMosaic.TcCoe Idealize.SL.Sem Idealize.ShloMosaic.StableHlo
open Idealize.ShloMosaic.ValueIdx
open Cert.ReferenceIdeal Cert.ReferenceIdeal.Gen Cert.ReferenceIdeal.Value

variable {F : FTy → Type} [FloatOps F]

/-- The start of the slice a trip takes of an array stacked by width. -/
abbrev startAt (n : IVec S_ 32) : Fin 4 → Int := fun k =>
  ((![n, constantI S_ 32 0#32, constantI S_ 32 0#32, constantI S_ 32 0#32] : Fin 4 → IVec S_ 32) k (Shape.Idx.first h_S_)).toInt

theorem startAt_eq {j : ℕ} (hj : j < 128) (a : Fin 4) :
    startAt (constantI S_ 32 (BitVec.ofNat 32 j)) a = ((![j, 0, 0, 0] : Fin 4 → ℕ) a : Int) := by
  match a with
  | ⟨0, _⟩ => exact toInt_ofNat_of_lt (k := j) (by omega)
  | ⟨1, _⟩ => rfl
  | ⟨2, _⟩ => rfl
  | ⟨3, _⟩ => rfl

theorem fits {j : ℕ} (hj : j < 128) : S128x16x32x128.Slices ![j, 0, 0, 0] S1x16x32x128 := by
  refine ⟨rfl, fun a => ?_⟩
  match a with
  | ⟨0, _⟩ => show j + 1 ≤ 128; omega
  | ⟨1, _⟩ => show 0 + 16 ≤ 16; omega
  | ⟨2, _⟩ => show 0 + 32 ≤ 32; omega
  | ⟨3, _⟩ => show 0 + 128 ≤ 128; omega

/-- The row trip `j` takes of an array stacked by width. -/
theorem row_apply {j : ℕ} (hj : j < 128) (x : S128x16x32x128.Idx → F .f32) (b : Fin 16) (c : Fin 32) (h : Fin 128) :
    shapeCast S16x32x128 (Host.dynamicSlice S1x16x32x128 x (startAt (constantI S_ 32 (BitVec.ofNat 32 j)))
      sliceFits_S128x16x32x128_S1x16x32x128) shapeCasts_S1x16x32x128_S16x32x128 (ix3 b c h) = x (ix4 ⟨j, hj⟩ b c h) := by
  rw [Host.dynamicSlice_eq_extractStridedSlice S1x16x32x128 x _ ![j, 0, 0, 0] _ (fits hj) (startAt_eq hj)]
  refine (shapeCast_dropUnit_apply ![16, 32, 128] _ _ (ix3 b c h)).trans ?_
  refine extractStridedSlice_apply _ _ _ _ _ fun a => ?_
  match a with
  | ⟨0, _⟩ => rfl
  | ⟨1, _⟩ => exact (Nat.zero_add _).symm
  | ⟨2, _⟩ => exact (Nat.zero_add _).symm
  | ⟨3, _⟩ => exact (Nat.zero_add _).symm

/-- Storing a row at width `j`: that row is the new one, the others stay. -/
theorem store_apply {j : ℕ} (hj : j < 128) (x : S128x16x32x128.Idx → F .f32) (u : S16x32x128.Idx → F .f32)
    (w : Fin 128) (b : Fin 16) (c : Fin 32) (h : Fin 128) :
    Host.dynamicUpdateSlice x (broadcastInDim S1x16x32x128 ![1, 2, 3] bcast_S16x32x128_S1x16x32x128_1_2_3 u)
      (startAt (constantI S_ 32 (BitVec.ofNat 32 j))) updateFits_S128x16x32x128_S1x16x32x128 (ix4 w b c h)
      = if w.val = j then u (ix3 b c h) else x (ix4 w b c h) := by
  rw [Host.dynamicUpdateSlice_eq_updateSlice x _ _ _ ![j, 0, 0, 0] (fun a => by
    have hf := (fits hj).2 a
    rw [startAt_eq hj a]
    have e : ∀ n m : ℕ, n ≤ m → (min (max (n : Int) 0) (m : Int)).toNat = n := fun n m h => by omega
    exact e _ _ (by omega)) (fits hj)]
  unfold updateSlice
  by_cases hw : w.val = j
  · rw [if_pos hw, dif_pos (fun a => by
      match a with
      | ⟨0, _⟩ => show j ≤ w.val ∧ w.val < j + 1; omega
      | ⟨1, _⟩ => exact ⟨Nat.zero_le _, by show b.val < 0 + 16; omega⟩
      | ⟨2, _⟩ => exact ⟨Nat.zero_le _, by show c.val < 0 + 32; omega⟩
      | ⟨3, _⟩ => exact ⟨Nat.zero_le _, by show h.val < 0 + 128; omega⟩)]
    refine broadcastInDim_apply _ _ _ _ _ fun a => ?_
    match a with
    | ⟨0, _⟩ => rfl
    | ⟨1, _⟩ => rfl
    | ⟨2, _⟩ => rfl
  · rw [if_neg hw, dif_neg (fun hh => hw (by
      have : j ≤ w.val ∧ w.val < j + 1 := hh (0 : Fin 4)
      omega))]

/-- The edge column of the scan. -/
theorem edge_apply (V0 : Valuation τ sig (Elt F)) (i : S16x32x1.Idx) : res_main_while0b_v18 V0 i = Recur.zero (F := F) := rfl

/-- The carried column moved down by one entry. -/
theorem up_apply (V0 : Valuation τ sig (Elt F)) (p : S16x32x128.Idx → F .f32) (b : Fin 16) (c : Fin 32) (h : Fin 128) :
    concatenate S16x32x128 2 [⟨S16x32x1, (res_main_while0b_v18 V0 : S16x32x1.Idx → F .f32)⟩,
      ⟨S16x32x127, extractStridedSlice S16x32x127 ![0, 0, 0] p slices_S16x32x128_S16x32x127_0_0_0⟩]
      concatenates_S16x32x1_S16x32x127_S16x32x128_d2 (ix3 b c h) = Recur.above (fun k => p (ix3 b c k)) h := by
  by_cases e : h.val = 0
  · rw [Recur.above_zero _ e]
    refine (concatenate_pair_apply_left (t := S16x32x128) (s₁ := S16x32x1) (s₂ := S16x32x127) 2 _ _ _ (ix3 b c h) rfl
      (ix3 b c ⟨0, by omega⟩) fun a => ?_).trans (edge_apply V0 _)
    match a with
    | ⟨0, _⟩ => rfl
    | ⟨1, _⟩ => rfl
    | ⟨2, _⟩ => exact e.symm
  · rw [Recur.above_succ _ e]
    refine (concatenate_pair_apply_right (t := S16x32x128) (s₁ := S16x32x1) (s₂ := S16x32x127) 2 _ _ _ (ix3 b c h) rfl rfl
      (ix3 b c ⟨h.val - 1, by omega⟩) (fun a ha => ?_) ?_).trans ?_
    · match a with
      | ⟨0, _⟩ => rfl
      | ⟨1, _⟩ => rfl
      | ⟨2, _⟩ => exact absurd rfl ha
    · show h.val - 1 + 1 = h.val; omega
    · refine extractStridedSlice_apply _ _ _ _ _ fun a => ?_
      match a with
      | ⟨0, _⟩ => exact (Nat.zero_add _).symm
      | ⟨1, _⟩ => exact (Nat.zero_add _).symm
      | ⟨2, _⟩ => exact (Nat.zero_add _).symm

/-- The carried column moved up by one entry. -/
theorem down_apply (V0 : Valuation τ sig (Elt F)) (p : S16x32x128.Idx → F .f32) (b : Fin 16) (c : Fin 32) (h : Fin 128) :
    concatenate S16x32x128 2 [⟨S16x32x127, extractStridedSlice S16x32x127 ![0, 0, 1] p slices_S16x32x128_S16x32x127_0_0_1⟩,
      ⟨S16x32x1, (res_main_while0b_v18 V0 : S16x32x1.Idx → F .f32)⟩]
      concatenates_S16x32x127_S16x32x1_S16x32x128_d2 (ix3 b c h) = Recur.below (fun k => p (ix3 b c k)) h := by
  by_cases e : h.val = 127
  · rw [Recur.below_last _ e]
    refine (concatenate_pair_apply_right (t := S16x32x128) (s₁ := S16x32x127) (s₂ := S16x32x1) 2 _ _ _ (ix3 b c h) rfl rfl
      (ix3 b c ⟨0, by omega⟩) (fun a ha => ?_) ?_).trans (edge_apply V0 _)
    · match a with
      | ⟨0, _⟩ => rfl
      | ⟨1, _⟩ => rfl
      | ⟨2, _⟩ => exact absurd rfl ha
    · show 0 + 127 = h.val; omega
  · rw [Recur.below_lt _ e]
    refine (concatenate_pair_apply_left (t := S16x32x128) (s₁ := S16x32x127) (s₂ := S16x32x1) 2 _ _ _ (ix3 b c h) rfl
      (ix3 b c ⟨h.val, by omega⟩) fun a => ?_).trans ?_
    · match a with
      | ⟨0, _⟩ => rfl
      | ⟨1, _⟩ => rfl
      | ⟨2, _⟩ => rfl
    · refine extractStridedSlice_apply _ _ _ _ _ fun a => ?_
      match a with
      | ⟨0, _⟩ => exact (Nat.zero_add _).symm
      | ⟨1, _⟩ => exact (Nat.zero_add _).symm
      | ⟨2, _⟩ => exact Nat.add_comm _ _

/-- The column a trip computes. -/
theorem trip_apply (V0 : Valuation τ sig (Elt F)) {j : ℕ} (hj : j < 128)
    (h5 : V0 (Proc.devRef .tc main_v9_5) = constantI S_ 32 (BitVec.ofNat 32 j))
    (b : Fin 16) (c : Fin 32) (h : Fin 128) :
    (res_main_while0b_v29 V0 : S16x32x128.Idx → F .f32) (ix3 b c h)
      = Recur.next
          (fun k => FloatOps.mulf ((V0 (Proc.devRef .tc main_v9_1) : S128x16x32x128.Idx → F .f32) (ix4 ⟨j, hj⟩ b c k))
            ((V0 (Proc.devRef .tc main_v9_0) : S128x16x32x128.Idx → F .f32) (ix4 ⟨j, hj⟩ b c k)))
          (fun k => (V0 (Proc.devRef .tc main_v9_2) : S128x16x32x128.Idx → F .f32) (ix4 ⟨j, hj⟩ b c k))
          (fun k => (V0 (Proc.devRef .tc main_v9_3) : S128x16x32x128.Idx → F .f32) (ix4 ⟨j, hj⟩ b c k))
          (fun k => (V0 (Proc.devRef .tc main_v9_4) : S128x16x32x128.Idx → F .f32) (ix4 ⟨j, hj⟩ b c k))
          (fun k => (V0 (Proc.devRef .tc main_v9_6) : S16x32x128.Idx → F .f32) (ix3 b c k)) h := by
  have r := fun x : S128x16x32x128.Idx → F .f32 => row_apply hj x b c h
  have u := up_apply V0 (V0 (Proc.devRef .tc main_v9_6)) b c h
  have d := down_apply V0 (V0 (Proc.devRef .tc main_v9_6)) b c h
  rw [← h5] at r
  exact congrArg₂ FloatOps.addf
    (congrArg₂ FloatOps.addf
      (congrArg₂ FloatOps.addf (congrArg₂ FloatOps.mulf (r _) (r _)) (congrArg₂ FloatOps.mulf (r _) u))
      (congrArg₂ FloatOps.mulf (r _) rfl))
    (congrArg₂ FloatOps.mulf (r _) d)

end Cert.ReferenceIdeal.Hand

end
-- ==== Proof.RefRun.lean ====
module

public import proofs.«01_k».proof.Proof.RefStep

@[expose] public section

set_option maxRecDepth 16384

noncomputable section

/-! # The reference's result is the recurrence -/

namespace Cert.ReferenceIdeal.Hand

open Idealize.ShloMosaic Idealize.ShloMosaic.TcCoe Idealize.SL.Sem Idealize.ShloMosaic.StableHlo
open Idealize.ShloMosaic.ValueIdx
open Cert.ReferenceIdeal Cert.ReferenceIdeal.Gen Cert.ReferenceIdeal.Value

variable {F : FTy → Type} [FloatOps F]

/-- An argument stacked by width. -/
def stacked (T : Recur.Arg F) : S128x16x32x128.Idx → F .f32 :=
  transpose S128x16x32x128 [3, 0, 1, 2] T transposes_S16x32x128x128_S128x16x32x128_3_0_1_2

theorem stacked_apply (T : Recur.Arg F) (w : Fin 128) (b : Fin 16) (c : Fin 32) (h : Fin 128) :
    stacked T (ix4 w b c h) = T (ix4 b c h w) := by
  refine transpose_apply (s := S16x32x128x128) (t := S128x16x32x128) _ _ _ (ix4 w b c h) (ix4 b c h w) fun a => ?_
  match a with
  | ⟨0, _⟩ => rfl
  | ⟨1, _⟩ => rfl
  | ⟨2, _⟩ => rfl
  | ⟨3, _⟩ => rfl

/-- What the scan's carried buffers hold after `n` trips. -/
structure After (X B G1 G2 G3 : Recur.Arg F) (n : ℕ) (V0 : Valuation τ sig (Elt F)) : Prop where
  x : V0 (Proc.devRef .tc main_v9_0) = stacked X
  b : V0 (Proc.devRef .tc main_v9_1) = stacked B
  g1 : V0 (Proc.devRef .tc main_v9_2) = stacked G1
  g2 : V0 (Proc.devRef .tc main_v9_3) = stacked G2
  g3 : V0 (Proc.devRef .tc main_v9_4) = stacked G3
  trip : V0 (Proc.devRef .tc main_v9_5) = constantI S_ 32 (BitVec.ofNat 32 n)
  col : ∀ (b : Fin 16) (c : Fin 32) (h : Fin 128),
    (V0 (Proc.devRef .tc main_v9_6) : S16x32x128.Idx → F .f32) (ix3 b c h) = Recur.chan B X G1 G2 G3 b c n h
  rows : ∀ (w : Fin 128) (b : Fin 16) (c : Fin 32) (h : Fin 128), w.val < n →
    (V0 (Proc.devRef .tc main_v9_7) : S128x16x32x128.Idx → F .f32) (ix4 w b c h) = Recur.chan B X G1 G2 G3 b c (w.val + 1) h

/-- A trip takes the state after `n` trips to the state after `n + 1`. -/
theorem After.step {X B G1 G2 G3 : Recur.Arg F} {n : ℕ} (hn : n < 128) {V0 : Valuation τ sig (Elt F)}
    (s : After X B G1 G2 G3 n V0) : After X B G1 G2 G3 (n + 1) (STEP V0) := by
  have new : ∀ (b : Fin 16) (c : Fin 32) (h : Fin 128),
      (res_main_while0b_v29 V0 : S16x32x128.Idx → F .f32) (ix3 b c h) = Recur.chan B X G1 G2 G3 b c (n + 1) h := by
    intro b c h
    have e : ∀ (T : Recur.Arg F), (fun k => stacked T (ix4 ⟨n, hn⟩ b c k)) = Recur.lane T b c n := fun T =>
      funext fun k => (stacked_apply T ⟨n, hn⟩ b c k).trans (Recur.lane_eq T b c n hn k).symm
    have es : (fun k => FloatOps.mulf (stacked B (ix4 ⟨n, hn⟩ b c k)) (stacked X (ix4 ⟨n, hn⟩ b c k)))
        = Recur.source B X b c n :=
      funext fun k => congrArg₂ FloatOps.mulf (congrFun (e B) k) (congrFun (e X) k)
    have ec : (fun k => (V0 (Proc.devRef .tc main_v9_6) : S16x32x128.Idx → F .f32) (ix3 b c k))
        = Recur.chan B X G1 G2 G3 b c n := funext fun k => s.col b c k
    rw [trip_apply V0 hn s.trip, ec, s.x, s.b, s.g1, s.g2, s.g3, e G1, e G2, e G3, es]
    rfl
  constructor
  · rw [STEP_main_v9_0, s.x]
  · rw [STEP_main_v9_1, s.b]
  · rw [STEP_main_v9_2, s.g1]
  · rw [STEP_main_v9_3, s.g2]
  · rw [STEP_main_v9_4, s.g3]
  · rw [STEP_main_v9_5]
    show id (addi (V0 (Proc.devRef .tc main_v9_5)) (constantI S_ 32 1#32)) = _
    rw [s.trip]
    funext i
    show BitVec.ofNat 32 n + BitVec.ofNat 32 1 = BitVec.ofNat 32 (n + 1)
    exact (BitVec.ofNat_add ..).symm
  · intro b c h
    rw [STEP_main_v9_6]
    exact new b c h
  · intro w b c h hw
    rw [STEP_main_v9_7]
    have st := store_apply hn (V0 (Proc.devRef .tc main_v9_7)) (res_main_while0b_v29 V0) w b c h
    rw [← s.trip] at st
    refine Eq.trans st ?_
    by_cases e : w.val = n
    · rw [if_pos e, e]; exact new b c h
    · rw [if_neg e]; exact s.rows w b c h (by omega)

section Launch
variable (m : (ℓ : Loc nD τ sig) → Buf (Elt F) ℓ)

set_option maxRecDepth 65536 in
set_option maxHeartbeats 1000000 in
/-- Before the first trip. -/
theorem after_entry (c : Dev nD) :
    After (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) 0 (entryContents preI m c) := by
  constructor
  · (simp only [entryContents, afterL_cons, afterL_nil]; after_reads_simp) <;> rfl
  · (simp only [entryContents, afterL_cons, afterL_nil]; after_reads_simp) <;> rfl
  · (simp only [entryContents, afterL_cons, afterL_nil]; after_reads_simp) <;> rfl
  · (simp only [entryContents, afterL_cons, afterL_nil]; after_reads_simp) <;> rfl
  · (simp only [entryContents, afterL_cons, afterL_nil]; after_reads_simp) <;> rfl
  · exact ctr_entry m c
  · intro b ch h
    have e : (entryContents preI m c (Proc.devRef .tc main_v9_6) : S16x32x128.Idx → F .f32)
        = fun _ => Recur.zero := by
      (simp only [entryContents, afterL_cons, afterL_nil]; after_reads_simp) <;> rfl
    rw [e]; rfl
  · intro w b ch h hw
    exact absurd hw (Nat.not_lt_zero _)

/-- After `n` trips, for every `n` up to the last. -/
theorem after_iter (c : Dev nD) (n : ℕ) : n ≤ 128 →
    After (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) n (STEP^[n] (entryContents preI m c)) := by
  induction n with
  | zero => exact fun _ => after_entry m c
  | succ k ih =>
    intro hk
    rw [Function.iterate_succ_apply']
    exact (ih (by omega)).step (by omega)

/-- The array the reference returns. -/
theorem out_eq (c : Dev nD) :
    (out_main_v11 (STEP^[128] (entryContents preI m c)) : S512x128x128.Idx → F .f32)
      = Recur.result (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) := by
  have s := after_iter m c 128 (le_refl _)
  funext i
  have hi0 : (i 0).val < 512 := (i 0).isLt
  have hq : (i 0).val / 32 < 16 := by omega
  have hr : (i 0).val % 32 < 32 := by omega
  refine (shapeCast_apply (s := S16x32x128x128) (t := S512x128x128) _ _ i
    (ix4 ⟨(i 0).val / 32, hq⟩ ⟨(i 0).val % 32, hr⟩ (i 1) (i 2)) ?_).trans ?_
  · rw [Shape.rowMajor_val_four, Shape.rowMajor_val_three]
    show (((i 0).val / 32 * 32 + (i 0).val % 32) * 128 + (i 1).val) * 128 + (i 2).val
      = ((i 0).val * 128 + (i 1).val) * 128 + (i 2).val
    omega
  · refine (transpose_apply (s := S128x16x32x128) (t := S16x32x128x128) _ _ _ _
      (ix4 (i 2) ⟨(i 0).val / 32, hq⟩ ⟨(i 0).val % 32, hr⟩ (i 1)) fun a => ?_).trans ?_
    · match a with
      | ⟨0, _⟩ => rfl
      | ⟨1, _⟩ => rfl
      | ⟨2, _⟩ => rfl
      | ⟨3, _⟩ => rfl
    · exact s.rows (i 2) _ _ (i 1) (i 2).isLt

end Launch

end Cert.ReferenceIdeal.Hand

end
-- ==== Proof.Steps.lean ====
module

public import proofs.«01_k».proof.Proof.Gen.KernelIdeal.Frame.RunA

@[expose] public section

set_option maxRecDepth 16384

noncomputable section

/-! # The unrolled body of the kernel as a recursion over its 128 steps -/

namespace Cert.KernelIdeal.Hand

open Idealize.ShloMosaic Idealize.ShloMosaic.TcCoe Idealize.ShloMosaic.Tactic
open Cert.KernelIdeal Cert.KernelIdeal.Gen

variable {F : FTy → Type} [FloatOps F]

/-- The column of zeros shifted in at either edge. -/
def edge : FVec F S32x1 .f32 := broadcast S32x1 (Scalar.ofBits .f32 0x00000000#32)

/-- One step of the recurrence on a block, as the kernel computes it from the four rows it loads and the column before. -/
def stepVec (v w1 w2 w3 : Vec F S1x32x128 .f32) (h : FVec F S32x128 .f32) : FVec F S32x128 .f32 :=
  addf
    (addf
      (addf (shapeCast S32x128 v shapeCasts_S1x32x128_S32x128)
        (mulf (shapeCast S32x128 w1 shapeCasts_S1x32x128_S32x128)
          (concatenate S32x128 1
            [⟨S32x1, edge⟩, ⟨S32x127, extractStridedSlice S32x127 ![0, 0] h slices_S32x128_o0_0_S32x127⟩]
            concatenates_S32x1_S32x127_S32x128_d1)))
      (mulf (shapeCast S32x128 w2 shapeCasts_S1x32x128_S32x128) h))
    (mulf (shapeCast S32x128 w3 shapeCasts_S1x32x128_S32x128)
      (concatenate S32x128 1
        [⟨S32x127, extractStridedSlice S32x127 ![0, 1] h slices_S32x128_o0_1_S32x127⟩, ⟨S32x1, edge⟩]
        concatenates_S32x127_S32x1_S32x128_d1))

/-- Row `w` lies inside a 128-row scratch array. -/
theorem inb128 {w : ℕ} (h : w < 128) : ∀ a, (![w, 0, 0] : Fin 3 → ℕ) a + S1x32x128.size a ≤ S128x32x128.size a := by
  intro a
  match a with
  | ⟨0, _⟩ => show w + 1 ≤ 128; omega
  | ⟨1, _⟩ => show 0 + 32 ≤ 32; omega
  | ⟨2, _⟩ => show 0 + 128 ≤ 128; omega

/-- Row `k` lies inside a 64-row scratch array. -/
theorem inb64 {k : ℕ} (h : k < 64) : ∀ a, (![k, 0, 0] : Fin 3 → ℕ) a + S1x32x128.size a ≤ S64x32x128.size a := by
  intro a
  match a with
  | ⟨0, _⟩ => show k + 1 ≤ 64; omega
  | ⟨1, _⟩ => show 0 + 32 ≤ 32; omega
  | ⟨2, _⟩ => show 0 + 128 ≤ 128; omega

/-- The row a load at `w` reads from a scratch array the run has filled with the pieces `L`. -/
def rowAt (M : Memref sig .tc .vmem S128x32x128 .f32) (L : List (View.Piece (Elt F) S128x32x128 .f32)) (w : ℕ)
    (h : w < 128) : Vec F S1x32x128 .f32 :=
  M.view.readCov L (Rect.unit (s := S128x32x128) ![w, 0, 0] S1x32x128.size (inb128 h)).toLoadRect

section Columns
variable (r0 r1 r2 r3 : (w : ℕ) → w < 128 → Vec F S1x32x128 .f32)

/-- The column after `n` steps, from the zero column. -/
def colVec (n : ℕ) : n ≤ 128 → FVec F S32x128 .f32 :=
  Nat.rec (motive := fun n => n ≤ 128 → FVec F S32x128 .f32)
    (fun _ => broadcast S32x128 (Scalar.ofBits .f32 0x00000000#32))
    (fun w ih h => stepVec (r0 w h) (r1 w h) (r2 w h) (r3 w h) (ih (Nat.le_of_succ_le h))) n

/-- The stores into an output scratch: row `k` is the column after step `base + k`, the last one stored first in the list. -/
def rowPieces (base : ℕ) (hb : base + 64 ≤ 128) (n : ℕ) : n ≤ 64 → List (View.Piece (Elt F) S64x32x128 .f32) :=
  Nat.rec (motive := fun n => n ≤ 64 → List (View.Piece (Elt F) S64x32x128 .f32))
    (fun _ => [])
    (fun k ih h =>
      ⟨Rect.unit ![k, 0, 0] S1x32x128.size (inb64 h),
        shapeCast S1x32x128 (colVec r0 r1 r2 r3 (base + k + 1) (by omega)) shapeCasts_S32x128_S1x32x128⟩
        :: ih (Nat.le_of_succ_le h)) n

end Columns

set_option maxHeartbeats 4000000 in
/-- The two stores the body makes into its output block, the later one first: each is an output scratch turned back, the
    scratch holding the columns of `colVec` over the rows of the four gate scratches. -/
theorem run_pieces  (c : Dev nD) (i : grid0.Coords) (arg1 : Memref sig .tc .vmem S32x128x128 .f32) (harg1 : arg1.IsWhole) (arg2 : Memref sig .tc .vmem S32x128x128 .f32) (harg2 : arg2.IsWhole) (arg3 : Memref sig .tc .vmem S32x128x128 .f32) (harg3 : arg3.IsWhole) (arg4 : Memref sig .tc .vmem S32x128x128 .f32) (harg4 : arg4.IsWhole) (arg5 : Memref sig .tc .vmem S32x128x128 .f32) (harg5 : arg5.IsWhole) (arg6 : Memref sig .tc .vmem S32x128x128 .f32) (harg6 : arg6.IsWhole) (arg7 : Memref sig .tc .vmem S128x32x128 .f32) (harg7 : arg7.IsWhole) (arg8 : Memref sig .tc .vmem S128x32x128 .f32) (harg8 : arg8.IsWhole) (arg9 : Memref sig .tc .vmem S128x32x128 .f32) (harg9 : arg9.IsWhole) (arg10 : Memref sig .tc .vmem S128x32x128 .f32) (harg10 : arg10.IsWhole) (arg11 : Memref sig .tc .vmem S64x32x128 .f32) (harg11 : arg11.IsWhole) (arg12 : Memref sig .tc .vmem S64x32x128 .f32) (harg12 : arg12.IsWhole)
    (x0 : Vec F S32x128x128 .f32) (x1 : Vec F S32x128x128 .f32) (x2 : Vec F S32x128x128 .f32) (x3 : Vec F S32x128x128 .f32) (x4 : Vec F S32x128x128 .f32)  :
    (kernelRun0_A c i arg1 harg1 arg2 harg2 arg3 harg3 arg4 harg4 arg5 harg5 arg6 harg6 arg7 harg7 arg8 harg8 arg9 harg9 arg10 harg10 arg11 harg11 arg12 harg12 x0 x1 x2 x3 x4).1 =
    let full := (Rect.unit (s := S32x128x128) ![0, 0, 0] S32x128x128.size inb_S32x128x128_S32x128x128_0_0_0).toLoadRect
    let rd := fun (a : Memref sig .tc .vmem S32x128x128 .f32) (ha : a.IsWhole) (x : Vec F S32x128x128 .f32) =>
      (View.readAt (Elt F) a.view full (ha.unread x) : Vec F S32x128x128 .f32)
    let st := fun (v : FVec F S128x32x128 .f32) =>
      ([⟨Rect.unit ![0, 0, 0] S128x32x128.size inb_S128x32x128_S128x32x128_0_0_0, v⟩] : List (View.Piece (Elt F) S128x32x128 .f32))
    let r0 := rowAt arg7 (st (k0_pay3 (rd arg1 harg1 x0) (rd arg2 harg2 x1)))
    let r1 := rowAt arg8 (st (k0_pay4 (rd arg3 harg3 x2)))
    let r2 := rowAt arg9 (st (k0_pay5 (rd arg4 harg4 x3)))
    let r3 := rowAt arg10 (st (k0_pay6 (rd arg5 harg5 x4)))
    [⟨Rect.unit ![0, 0, 64] S32x128x64.size inb_S32x128x128_S32x128x64_0_0_64,
        k0_pay2 (arg12.view.readCov (rowPieces r0 r1 r2 r3 64 (by omega) 64 (by omega))
          (Rect.unit ![0, 0, 0] S64x32x128.size inb_S64x32x128_S64x32x128_0_0_0).toLoadRect)⟩,
      ⟨Rect.unit ![0, 0, 0] S32x128x64.size inb_S32x128x128_S32x128x64_0_0_0,
        k0_pay207 (arg11.view.readCov (rowPieces r0 r1 r2 r3 0 (by omega) 64 (by omega))
          (Rect.unit ![0, 0, 0] S64x32x128.size inb_S64x32x128_S64x32x128_0_0_0).toLoadRect)⟩] := by
  sl_kernel_rfl

end Cert.KernelIdeal.Hand

end
-- ==== Proof.Columns.lean ====
module

public import proofs.«01_k».proof.Proof.Steps
public import proofs.«01_k».proof.Proof.Math

@[expose] public section

set_option maxRecDepth 16384

noncomputable section

/-! # The kernel's columns are the recurrence, one channel at a time -/

namespace Cert.KernelIdeal.Hand

open Idealize.ShloMosaic Idealize.ShloMosaic.TcCoe Idealize.ShloMosaic.ValueIdx
open Cert.KernelIdeal Cert.KernelIdeal.Gen

variable {F : FTy → Type} [FloatOps F]

theorem edge_apply (i : S32x1.Idx) : edge i = Recur.zero (F := F) := rfl

/-- The column moved down by one entry. -/
theorem up_apply (p : FVec F S32x128 .f32) (c : Fin 32) (h : Fin 128) :
    concatenate S32x128 1
      [⟨S32x1, (edge : FVec F S32x1 .f32)⟩, ⟨S32x127, extractStridedSlice S32x127 ![0, 0] p slices_S32x128_o0_0_S32x127⟩]
      concatenates_S32x1_S32x127_S32x128_d1 (ix2 c h) = Recur.above (fun k => p (ix2 c k)) h := by
  by_cases e : h.val = 0
  · rw [Recur.above_zero _ e]
    refine (concatenate_pair_apply_left (t := S32x128) (s₁ := S32x1) (s₂ := S32x127) 1 _ _ _ (ix2 c h) rfl
      (ix2 c ⟨0, by omega⟩) fun a => ?_).trans (edge_apply _)
    match a with
    | ⟨0, _⟩ => rfl
    | ⟨1, _⟩ => exact e.symm
  · rw [Recur.above_succ _ e]
    refine (concatenate_pair_apply_right (t := S32x128) (s₁ := S32x1) (s₂ := S32x127) 1 _ _ _ (ix2 c h) rfl rfl
      (ix2 c ⟨h.val - 1, by omega⟩) (fun a ha => ?_) ?_).trans ?_
    · match a with
      | ⟨0, _⟩ => rfl
      | ⟨1, _⟩ => exact absurd rfl ha
    · show h.val - 1 + 1 = h.val; omega
    · refine extractStridedSlice_apply _ _ _ _ _ fun a => ?_
      match a with
      | ⟨0, _⟩ => exact (Nat.zero_add _).symm
      | ⟨1, _⟩ => exact (Nat.zero_add _).symm

/-- The column moved up by one entry. -/
theorem down_apply (p : FVec F S32x128 .f32) (c : Fin 32) (h : Fin 128) :
    concatenate S32x128 1
      [⟨S32x127, extractStridedSlice S32x127 ![0, 1] p slices_S32x128_o0_1_S32x127⟩, ⟨S32x1, (edge : FVec F S32x1 .f32)⟩]
      concatenates_S32x127_S32x1_S32x128_d1 (ix2 c h) = Recur.below (fun k => p (ix2 c k)) h := by
  by_cases e : h.val = 127
  · rw [Recur.below_last _ e]
    refine (concatenate_pair_apply_right (t := S32x128) (s₁ := S32x127) (s₂ := S32x1) 1 _ _ _ (ix2 c h) rfl rfl
      (ix2 c ⟨0, by omega⟩) (fun a ha => ?_) ?_).trans (edge_apply _)
    · match a with
      | ⟨0, _⟩ => rfl
      | ⟨1, _⟩ => exact absurd rfl ha
    · show 0 + 127 = h.val; omega
  · rw [Recur.below_lt _ e]
    refine (concatenate_pair_apply_left (t := S32x128) (s₁ := S32x127) (s₂ := S32x1) 1 _ _ _ (ix2 c h) rfl
      (ix2 c ⟨h.val, by omega⟩) fun a => ?_).trans ?_
    · match a with
      | ⟨0, _⟩ => rfl
      | ⟨1, _⟩ => rfl
    · refine extractStridedSlice_apply _ _ _ _ _ fun a => ?_
      match a with
      | ⟨0, _⟩ => exact (Nat.zero_add _).symm
      | ⟨1, _⟩ => exact Nat.add_comm _ _

/-- A loaded row with its unit axis dropped. -/
theorem drop_apply (v : Vec F S1x32x128 .f32) (c : Fin 32) (h : Fin 128) :
    shapeCast S32x128 v shapeCasts_S1x32x128_S32x128 (ix2 c h) = v (ix3 ⟨0, Nat.one_pos⟩ c h) := by
  refine (shapeCast_dropUnit_apply ![32, 128] v _ (ix2 c h)).trans (congrArg v (funext fun a => ?_))
  match a with
  | ⟨0, _⟩ => rfl
  | ⟨1, _⟩ => rfl
  | ⟨2, _⟩ => rfl

/-- One step of the kernel on one channel. -/
theorem stepVec_apply (v w1 w2 w3 : Vec F S1x32x128 .f32) (p : FVec F S32x128 .f32) (c : Fin 32) (h : Fin 128) :
    stepVec v w1 w2 w3 p (ix2 c h)
      = Recur.next (fun k => v (ix3 ⟨0, Nat.one_pos⟩ c k)) (fun k => w1 (ix3 ⟨0, Nat.one_pos⟩ c k))
          (fun k => w2 (ix3 ⟨0, Nat.one_pos⟩ c k)) (fun k => w3 (ix3 ⟨0, Nat.one_pos⟩ c k)) (fun k => p (ix2 c k)) h :=
  congrArg₂ FloatOps.addf
    (congrArg₂ FloatOps.addf
      (congrArg₂ FloatOps.addf (drop_apply v c h) (congrArg₂ FloatOps.mulf (drop_apply w1 c h) (up_apply p c h)))
      (congrArg₂ FloatOps.mulf (drop_apply w2 c h) rfl))
    (congrArg₂ FloatOps.mulf (drop_apply w3 c h) (down_apply p c h))

/-- The kernel's columns, given what its rows hold on channel `c`. -/
theorem colVec_apply (r0 r1 r2 r3 : (w : ℕ) → w < 128 → Vec F S1x32x128 .f32) (s a b d : ℕ → Fin 128 → F .f32) (c : Fin 32)
    (h0 : ∀ w hw k, r0 w hw (ix3 ⟨0, Nat.one_pos⟩ c k) = s w k) (h1 : ∀ w hw k, r1 w hw (ix3 ⟨0, Nat.one_pos⟩ c k) = a w k)
    (h2 : ∀ w hw k, r2 w hw (ix3 ⟨0, Nat.one_pos⟩ c k) = b w k) (h3 : ∀ w hw k, r3 w hw (ix3 ⟨0, Nat.one_pos⟩ c k) = d w k)
    (n : ℕ) : ∀ (hn : n ≤ 128) (h : Fin 128), colVec r0 r1 r2 r3 n hn (ix2 c h) = Recur.column s a b d n h := by
  induction n with
  | zero => intro hn h; rfl
  | succ w ih =>
    intro hn h
    have hw : w < 128 := hn
    show stepVec (r0 w hw) (r1 w hw) (r2 w hw) (r3 w hw) (colVec r0 r1 r2 r3 w (Nat.le_of_succ_le hn)) (ix2 c h) = _
    rw [stepVec_apply, funext (h0 w hw), funext (h1 w hw), funext (h2 w hw), funext (h3 w hw), funext (ih (Nat.le_of_succ_le hn))]
    rfl

end Cert.KernelIdeal.Hand

end
-- ==== Proof.Rows.lean ====
module

public import proofs.«01_k».proof.Proof.Columns

@[expose] public section

set_option maxRecDepth 16384

noncomputable section

/-! # What the scratch arrays give back -/

namespace Cert.KernelIdeal.Hand

open Idealize.ShloMosaic Idealize.ShloMosaic.TcCoe Idealize.ShloMosaic.ValueIdx
open Cert.KernelIdeal Cert.KernelIdeal.Gen

variable {F : FTy → Type} [FloatOps F]

theorem off_zero : (![0, 0, 0] : Fin 3 → ℕ) = fun _ => 0 := by
  funext a
  match a with
  | ⟨0, _⟩ => rfl
  | ⟨1, _⟩ => rfl
  | ⟨2, _⟩ => rfl

/-- Row `w` of a gate scratch, filled whole by one store. -/
theorem rowAt_apply (M : Memref sig .tc .vmem S128x32x128 .f32) (v : FVec F S128x32x128 .f32) (w : ℕ) (hw : w < 128)
    (c : Fin 32) (h : Fin 128) :
    rowAt M [⟨Rect.unit ![0, 0, 0] S128x32x128.size inb_S128x32x128_S128x32x128_0_0_0, v⟩] w hw (ix3 ⟨0, Nat.one_pos⟩ c h)
      = v (ix3 ⟨w, hw⟩ c h) := by
  unfold rowAt
  rw [View.readCov_eq_canon_ld _ _ _ (fun y => ⟨_, List.mem_singleton_self _, View.mem_set_unit_zero off_zero inb_S128x32x128_S128x32x128_0_0_0 y⟩),
    View.canon_unit_zero off_zero]
  refine congrArg v (funext fun a => Fin.ext ?_)
  match a with
  | ⟨0, _⟩ => show w + 1 * 0 = w; omega
  | ⟨1, _⟩ => show 0 + 1 * c.val = c.val; omega
  | ⟨2, _⟩ => show 0 + 1 * h.val = h.val; omega

/-- An input block turned so that the width comes first. -/
theorem turn_apply (x : FVec F S32x128x128 .f32) (w : Fin 128) (c : Fin 32) (h : Fin 128) :
    transpose S128x32x128 [2, 0, 1] x transposes_S32x128x128_p2_0_1_S128x32x128 (ix3 w c h) = x (ix3 c h w) := by
  refine transpose_apply (s := S32x128x128) (t := S128x32x128) _ _ _ _ _ fun a => ?_
  match a with
  | ⟨0, _⟩ => rfl
  | ⟨1, _⟩ => rfl
  | ⟨2, _⟩ => rfl

theorem pay3_apply (x y : Vec F S32x128x128 .f32) (w : Fin 128) (c : Fin 32) (h : Fin 128) :
    k0_pay3 x y (ix3 w c h) = FloatOps.mulf (x (ix3 c h w)) (y (ix3 c h w)) := by
  unfold k0_pay3
  simp only [shapeCast_self]
  exact turn_apply (mulf x y) w c h

theorem pay4_apply (x : Vec F S32x128x128 .f32) (w : Fin 128) (c : Fin 32) (h : Fin 128) :
    k0_pay4 x (ix3 w c h) = x (ix3 c h w) := by
  unfold k0_pay4
  simp only [shapeCast_self]
  exact turn_apply x w c h

theorem pay5_apply (x : Vec F S32x128x128 .f32) (w : Fin 128) (c : Fin 32) (h : Fin 128) :
    k0_pay5 x (ix3 w c h) = x (ix3 c h w) := by
  unfold k0_pay5
  simp only [shapeCast_self]
  exact turn_apply x w c h

theorem pay6_apply (x : Vec F S32x128x128 .f32) (w : Fin 128) (c : Fin 32) (h : Fin 128) :
    k0_pay6 x (ix3 w c h) = x (ix3 c h w) := by
  unfold k0_pay6
  simp only [shapeCast_self]
  exact turn_apply x w c h

/-- An input block read back whole from its buffer. -/
theorem rd_eq (a : Memref sig .tc .vmem S32x128x128 .f32) (ha : a.IsWhole) (x : Vec F S32x128x128 .f32) :
    (View.readAt (Elt F) a.view
      (Rect.unit (s := S32x128x128) ![0, 0, 0] S32x128x128.size inb_S32x128x128_S32x128x128_0_0_0).toLoadRect
      (ha.unread x) : Vec F S32x128x128 .f32) = x := by
  rw [View.readAt_eq_ld, ha.read_unread, View.ld_unit_zero off_zero]

section Columns
variable (r0 r1 r2 r3 : (w : ℕ) → w < 128 → Vec F S1x32x128 .f32)

/-- What an output scratch holds: row `k` is the column after step `base + k`. -/
def half (base : ℕ) (hb : base + 64 ≤ 128) : S64x32x128.Idx → F .f32 := fun y =>
  colVec r0 r1 r2 r3 (base + (y 0).val + 1) (by have : (y 0).val < 64 := (y 0).isLt; omega) (ix2 (y 1) (y 2))

theorem rowPieces_val (base : ℕ) (hb : base + 64 ≤ 128) (n : ℕ) : ∀ (hn : n ≤ 64),
    ∀ p ∈ rowPieces r0 r1 r2 r3 base hb n hn, ∀ x : p.1.shape.Idx, p.2 x = half r0 r1 r2 r3 base hb (p.1.emb x) := by
  induction n with
  | zero => intro hn p hp; exact absurd hp List.not_mem_nil
  | succ k ih =>
    intro hn p hp
    rcases List.mem_cons.mp hp with rfl | hp'
    · intro x
      have hx0 : (x (0 : Fin 3)).val < 1 := (x (0 : Fin 3)).isLt
      have key : ∀ (n n' : ℕ) (hn : n ≤ 128) (hn' : n' ≤ 128) (i i' : S32x128.Idx), n = n' → i = i' →
          colVec r0 r1 r2 r3 n hn i = colVec r0 r1 r2 r3 n' hn' i' := by
        intro n n' hn hn' i i' e e'; subst e; subst e'; rfl
      refine (shapeCast_addUnit_apply ![32, 128] (colVec r0 r1 r2 r3 (base + k + 1) (by omega))
        shapeCasts_S32x128_S1x32x128 x).trans ?_
      unfold half
      refine key _ _ _ _ _ _ ?_ (funext fun a => Fin.ext ?_)
      · show base + k + 1 = base + (k + 1 * (x (0 : Fin 3)).val) + 1; omega
      · match a with
        | ⟨0, _⟩ => show (x (1 : Fin 3)).val = 0 + 1 * (x (1 : Fin 3)).val; omega
        | ⟨1, _⟩ => show (x (2 : Fin 3)).val = 0 + 1 * (x (2 : Fin 3)).val; omega
    · exact ih (Nat.le_of_succ_le hn) p hp'

theorem rowPieces_cover (base : ℕ) (hb : base + 64 ≤ 128) (n : ℕ) : ∀ (hn : n ≤ 64) (y : S64x32x128.Idx), (y 0).val < n →
    ∃ p ∈ rowPieces r0 r1 r2 r3 base hb n hn, y ∈ p.1.set := by
  induction n with
  | zero => intro hn y hy; exact absurd hy (Nat.not_lt_zero _)
  | succ k ih =>
    intro hn y hy
    by_cases e : (y 0).val = k
    · refine ⟨_, List.mem_cons_self, (Rect.mem_set_unit (inb := inb64 hn)).mpr fun a => ?_⟩
      match a with
      | ⟨0, _⟩ => show k ≤ (y 0).val ∧ (y 0).val < k + 1; omega
      | ⟨1, _⟩ => exact ⟨Nat.zero_le _, by have : (y 1).val < 32 := (y 1).isLt; show (y 1).val < 0 + 32; omega⟩
      | ⟨2, _⟩ => exact ⟨Nat.zero_le _, by have : (y 2).val < 128 := (y 2).isLt; show (y 2).val < 0 + 128; omega⟩
    · obtain ⟨p, hp, hm⟩ := ih (Nat.le_of_succ_le hn) y (by omega)
      exact ⟨p, List.mem_cons_of_mem _ hp, hm⟩

/-- An output scratch read back whole. -/
theorem half_read (M : Memref sig .tc .vmem S64x32x128 .f32) (base : ℕ) (hb : base + 64 ≤ 128) :
    M.view.readCov (rowPieces r0 r1 r2 r3 base hb 64 (le_refl _))
      (Rect.unit ![0, 0, 0] S64x32x128.size inb_S64x32x128_S64x32x128_0_0_0).toLoadRect = half r0 r1 r2 r3 base hb := by
  have cov := fun y : S64x32x128.Idx => rowPieces_cover r0 r1 r2 r3 base hb 64 (le_refl _) y (y 0).isLt
  rw [View.readCov_eq_canon_ld _ _ _ cov, View.ld_unit_zero off_zero]
  exact funext fun y => View.canon_apply_of_pieces _ _ (rowPieces_val r0 r1 r2 r3 base hb 64 (le_refl _)) y (cov y)

/-- A scratch turned back so that the width comes last. -/
theorem back_apply (v : FVec F S64x32x128 .f32) (c : Fin 32) (h : Fin 128) (k : Fin 64) :
    transpose S32x128x64 [1, 2, 0] v transposes_S64x32x128_p1_2_0_S32x128x64 (ix3 c h k) = v (ix3 k c h) := by
  refine transpose_apply (s := S64x32x128) (t := S32x128x64) _ _ _ _ _ fun a => ?_
  match a with
  | ⟨0, _⟩ => rfl
  | ⟨1, _⟩ => rfl
  | ⟨2, _⟩ => rfl

theorem back_half (base : ℕ) (hb : base + 64 ≤ 128) (c : Fin 32) (h : Fin 128) (k : Fin 64) :
    transpose S32x128x64 [1, 2, 0] (half r0 r1 r2 r3 base hb) transposes_S64x32x128_p1_2_0_S32x128x64 (ix3 c h k)
      = colVec r0 r1 r2 r3 (base + k.val + 1) (by omega) (ix2 c h) :=
  back_apply _ c h k

/-- What the block's buffer holds: entry `(c, h, w)` is entry `(c, h)` of the column after step `w`. -/
def whole : S32x128x128.Idx → F .f32 := fun y =>
  colVec r0 r1 r2 r3 ((y 2).val + 1) (by have : (y 2).val < 128 := (y 2).isLt; omega) (ix2 (y 0) (y 1))

/-- The two stores into the block's buffer leave that. -/
theorem halves_canon (A B : FVec F S64x32x128 .f32) (hA : A = half r0 r1 r2 r3 0 (by omega))
    (hB : B = half r0 r1 r2 r3 64 (by omega)) :
    View.canon (Val := Elt F) (e := .f32) [⟨Rect.unit (s := S32x128x128) ![0, 0, 64] S32x128x64.size inb_S32x128x128_S32x128x64_0_0_64, k0_pay2 B⟩,
      ⟨Rect.unit (s := S32x128x128) ![0, 0, 0] S32x128x64.size inb_S32x128x128_S32x128x64_0_0_0, k0_pay207 A⟩] = whole r0 r1 r2 r3 := by
  subst hA hB
  have key : ∀ (n n' : ℕ) (hn : n ≤ 128) (hn' : n' ≤ 128) (i i' : S32x128.Idx), n = n' → i = i' →
      colVec r0 r1 r2 r3 n hn i = colVec r0 r1 r2 r3 n' hn' i' := by
    intro n n' hn hn' i i' e e'; subst e; subst e'; rfl
  funext y
  refine View.canon_apply_of_pieces (Val := Elt F) (e := .f32) (whole r0 r1 r2 r3) _ (fun p hp => ?_) y ?_
  · rcases List.mem_cons.mp hp with rfl | hp
    · intro x
      rw [eq_ix3 (n0 := 32) (n1 := 128) (n2 := 64) x]
      refine (back_half r0 r1 r2 r3 64 (by omega) _ _ _).trans ?_
      unfold whole
      refine key _ _ _ _ _ _ ?_ (funext fun a => Fin.ext ?_)
      · show 64 + (x (2 : Fin 3)).val + 1 = 64 + 1 * (x (2 : Fin 3)).val + 1; omega
      · match a with
        | ⟨0, _⟩ => show (x (0 : Fin 3)).val = 0 + 1 * (x (0 : Fin 3)).val; omega
        | ⟨1, _⟩ => show (x (1 : Fin 3)).val = 0 + 1 * (x (1 : Fin 3)).val; omega
    · rw [List.mem_singleton.mp hp]
      intro x
      rw [eq_ix3 (n0 := 32) (n1 := 128) (n2 := 64) x]
      refine (back_half r0 r1 r2 r3 0 (by omega) _ _ _).trans ?_
      unfold whole
      refine key _ _ _ _ _ _ ?_ (funext fun a => Fin.ext ?_)
      · show 0 + (x (2 : Fin 3)).val + 1 = 0 + 1 * (x (2 : Fin 3)).val + 1; omega
      · match a with
        | ⟨0, _⟩ => show (x (0 : Fin 3)).val = 0 + 1 * (x (0 : Fin 3)).val; omega
        | ⟨1, _⟩ => show (x (1 : Fin 3)).val = 0 + 1 * (x (1 : Fin 3)).val; omega
  · have h0 : (y 0).val < 32 := (y 0).isLt
    have h1 : (y 1).val < 128 := (y 1).isLt
    have h2 : (y 2).val < 128 := (y 2).isLt
    by_cases e : (y 2).val < 64
    · refine ⟨_, List.mem_cons_of_mem _ (List.mem_singleton_self _),
        (Rect.mem_set_unit (inb := inb_S32x128x128_S32x128x64_0_0_0)).mpr fun a => ?_⟩
      match a with
      | ⟨0, _⟩ => show 0 ≤ (y 0).val ∧ (y 0).val < 0 + 32; omega
      | ⟨1, _⟩ => show 0 ≤ (y 1).val ∧ (y 1).val < 0 + 128; omega
      | ⟨2, _⟩ => show 0 ≤ (y 2).val ∧ (y 2).val < 0 + 64; omega
    · refine ⟨_, List.mem_cons_self,
        (Rect.mem_set_unit (inb := inb_S32x128x128_S32x128x64_0_0_64)).mpr fun a => ?_⟩
      match a with
      | ⟨0, _⟩ => show 0 ≤ (y 0).val ∧ (y 0).val < 0 + 32; omega
      | ⟨1, _⟩ => show 0 ≤ (y 1).val ∧ (y 1).val < 0 + 128; omega
      | ⟨2, _⟩ => show 64 ≤ (y 2).val ∧ (y 2).val < 64 + 64; omega

end Columns

end Cert.KernelIdeal.Hand

end
-- ==== Proof.Block.lean ====
module

public import proofs.«01_k».proof.Proof.Gen.KernelIdeal.Value
public import proofs.«01_k».proof.Proof.Rows

@[expose] public section

set_option maxRecDepth 16384

noncomputable section

/-! # What a grid point leaves in its output block -/

namespace Cert.KernelIdeal.Hand

open Idealize.ShloMosaic Idealize.ShloMosaic.TcCoe Idealize.ShloMosaic.ValueIdx Idealize.SL.Sem
open Cert.KernelIdeal Cert.KernelIdeal.Gen Cert.KernelIdeal.Value

variable {F : FTy → Type} [FloatOps F]

/-- Channel `c` of an input block, by width first. -/
def blockLane (x : Vec F S32x128x128 .f32) (c : Fin 32) : ℕ → Fin 128 → F .f32 := fun w h => x (ix3 c h (Fin.ofNat 128 w))

theorem blockLane_eq (x : Vec F S32x128x128 .f32) (c : Fin 32) (w : ℕ) (hw : w < 128) (h : Fin 128) :
    x (ix3 c h ⟨w, hw⟩) = blockLane x c w h := by
  have e : (⟨w, hw⟩ : Fin 128) = Fin.ofNat 128 w := Fin.ext (Nat.mod_eq_of_lt hw).symm
  rw [e]; rfl

/-- The block a grid point leaves, as a function of its five input blocks. -/
def blockOut (x0 x1 x2 x3 x4 : Vec F S32x128x128 .f32) : Vec F S32x128x128 .f32 := fun y =>
  Recur.column (fun w k => FloatOps.mulf (blockLane x0 (y 0) w k) (blockLane x1 (y 0) w k)) (blockLane x2 (y 0))
    (blockLane x3 (y 0)) (blockLane x4 (y 0)) ((y 2).val + 1) (y 1)

/-- The run of the body leaves that block. -/
theorem out_eq (c : Dev nD) (i : grid0.Coords) (arg1 : Memref sig .tc .vmem S32x128x128 .f32) (harg1 : arg1.IsWhole) (arg2 : Memref sig .tc .vmem S32x128x128 .f32) (harg2 : arg2.IsWhole) (arg3 : Memref sig .tc .vmem S32x128x128 .f32) (harg3 : arg3.IsWhole) (arg4 : Memref sig .tc .vmem S32x128x128 .f32) (harg4 : arg4.IsWhole) (arg5 : Memref sig .tc .vmem S32x128x128 .f32) (harg5 : arg5.IsWhole) (arg6 : Memref sig .tc .vmem S32x128x128 .f32) (harg6 : arg6.IsWhole) (arg7 : Memref sig .tc .vmem S128x32x128 .f32) (harg7 : arg7.IsWhole) (arg8 : Memref sig .tc .vmem S128x32x128 .f32) (harg8 : arg8.IsWhole) (arg9 : Memref sig .tc .vmem S128x32x128 .f32) (harg9 : arg9.IsWhole) (arg10 : Memref sig .tc .vmem S128x32x128 .f32) (harg10 : arg10.IsWhole) (arg11 : Memref sig .tc .vmem S64x32x128 .f32) (harg11 : arg11.IsWhole) (arg12 : Memref sig .tc .vmem S64x32x128 .f32) (harg12 : arg12.IsWhole)
    (x0 : Vec F S32x128x128 .f32) (x1 : Vec F S32x128x128 .f32) (x2 : Vec F S32x128x128 .f32) (x3 : Vec F S32x128x128 .f32) (x4 : Vec F S32x128x128 .f32) :
    out0_A_5 c i arg1 harg1 arg2 harg2 arg3 harg3 arg4 harg4 arg5 harg5 arg6 harg6 arg7 harg7 arg8 harg8 arg9 harg9 arg10 harg10 arg11 harg11 arg12 harg12 x0 x1 x2 x3 x4 = blockOut x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 x0 x1 x2 x3 x4), run_pieces]
  dsimp only
  rw [rd_eq arg1 harg1, rd_eq arg2 harg2, rd_eq arg3 harg3, rd_eq arg4 harg4, rd_eq arg5 harg5]
  rw [halves_canon _ _ _ _ _ _ (half_read _ _ _ _ arg11 0 (by omega)) (half_read _ _ _ _ arg12 64 (by omega))]
  funext y
  have h2 : (y 2).val < 128 := (y 2).isLt
  refine colVec_apply _ _ _ _ _ _ _ _ (y 0) (fun w hw k => ?_) (fun w hw k => ?_) (fun w hw k => ?_) (fun w hw k => ?_)
    ((y 2).val + 1) (by omega) (y 1)
  · exact (rowAt_apply arg7 (k0_pay3 x0 x1) w hw (y 0) k).trans ((pay3_apply x0 x1 ⟨w, hw⟩ (y 0) k).trans
      (congrArg₂ FloatOps.mulf (blockLane_eq x0 (y 0) w hw k) (blockLane_eq x1 (y 0) w hw k)))
  · exact (rowAt_apply arg8 (k0_pay4 x2) w hw (y 0) k).trans
      ((pay4_apply x2 ⟨w, hw⟩ (y 0) k).trans (blockLane_eq x2 (y 0) w hw k))
  · exact (rowAt_apply arg9 (k0_pay5 x3) w hw (y 0) k).trans
      ((pay5_apply x3 ⟨w, hw⟩ (y 0) k).trans (blockLane_eq x3 (y 0) w hw k))
  · exact (rowAt_apply arg10 (k0_pay6 x4) w hw (y 0) k).trans
      ((pay6_apply x4 ⟨w, hw⟩ (y 0) k).trans (blockLane_eq x4 (y 0) w hw k))

end Cert.KernelIdeal.Hand

end
-- ==== Proof.Whole.lean ====
module

public import proofs.«01_k».proof.Proof.Block
public import Idealize.ShloMosaic.Lib.StableHlo.RunRead

@[expose] public section

set_option maxRecDepth 16384

noncomputable section

/-! # The kernel's result array is the recurrence -/

namespace Cert.KernelIdeal.Hand

open Idealize.ShloMosaic Idealize.ShloMosaic.TcCoe Idealize.ShloMosaic.ValueIdx Idealize.SL.Sem
open Cert.KernelIdeal Cert.KernelIdeal.Gen Cert.KernelIdeal.Value

variable {F : FTy → Type} [FloatOps F]

/-- Row `i` of an argument as the kernel is given it, the first two axes taken together. -/
def merged (T : Recur.Arg F) : S512x128x128.Idx → F .f32 :=
  shapeCast S512x128x128 T shapeCasts_S16x32x128x128_S512x128x128

theorem merged_apply (T : Recur.Arg F) (t : Fin 16) (c : Fin 32) (h w : Fin 128) :
    merged T (ix3 ⟨t.val * 32 + c.val, by omega⟩ h w) = T (ix4 t c h w) := by
  refine shapeCast_apply (s := S16x32x128x128) (t := S512x128x128) _ _ _ _ ?_
  rw [Shape.rowMajor_val_four, Shape.rowMajor_val_three]
  rfl

/-- A channel of block `t` of an argument is a channel of the argument. -/
theorem blockLane_merged (T : Recur.Arg F) (x : Vec F S32x128x128 .f32) (t : Fin 16)
    (hx : ∀ (c : Fin 32) (h w : Fin 128), x (ix3 c h w) = merged T (ix3 ⟨t.val * 32 + c.val, by omega⟩ h w)) (c : Fin 32) :
    blockLane x c = Recur.lane T t c :=
  funext fun w => funext fun h => (hx c h (Fin.ofNat 128 w)).trans (merged_apply T t c h (Fin.ofNat 128 w))

section Launch
variable (m : (ℓ : Loc nD τ sig) → Buf (Elt F) ℓ) (ρ : Dev nD → PrngReg)

/-- The five arrays the kernel is given. -/
theorem given0 (c : Dev nD) : V m c main_v0 = merged (m ((c : Thread nD τ).loc main_arg0)) := by
  (simp only [V]; after_reads_simp) <;> rfl
theorem given1 (c : Dev nD) : V m c main_v1 = merged (m ((c : Thread nD τ).loc main_arg1)) := by
  (simp only [V]; after_reads_simp) <;> rfl
theorem given2 (c : Dev nD) : V m c main_v2 = merged (m ((c : Thread nD τ).loc main_arg2)) := by
  (simp only [V]; after_reads_simp) <;> rfl
theorem given3 (c : Dev nD) : V m c main_v3 = merged (m ((c : Thread nD τ).loc main_arg3)) := by
  (simp only [V]; after_reads_simp) <;> rfl
theorem given4 (c : Dev nD) : V m c main_v4 = merged (m ((c : Thread nD τ).loc main_arg4)) := by
  (simp only [V]; after_reads_simp) <;> rfl

/-- Every window's block number at a point is the point, on the first axis. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)
theorem index4 : ∀ t : Fin cfg0.N, win0_4.index t (0 : Fin 3) = t.val ∧ win0_4.index t (1 : Fin 3) = 0 ∧ win0_4.index t (2 : Fin 3) = 0 :=
  (by decide +kernel : ∀ t : Fin grid0.N, _)
theorem index5 : ∀ t : Fin cfg0.N, win0_5.index t (0 : Fin 3) = t.val ∧ win0_5.index t (1 : Fin 3) = 0 ∧ win0_5.index t (2 : Fin 3) = 0 :=
  (by decide +kernel : ∀ t : Fin grid0.N, _)

/-- An index whose coordinates are those of block `t` at `(c, h, w)`. -/
theorem place {t : ℕ} (ht : t < 16) (c : Fin 32) (h w : Fin 128) (k : Fin 3 → ℕ) (hk : k 0 = t ∧ k 1 = 0 ∧ k 2 = 0)
    (i : S512x128x128.Idx) (h0 : (i 0).val = k 0 * 32 + 1 * c.val) (h1 : (i 1).val = k 1 * 128 + 1 * h.val)
    (h2 : (i 2).val = k 2 * 128 + 1 * w.val) : i = ix3 ⟨t * 32 + c.val, by omega⟩ h w := by
  obtain ⟨e0, e1, e2⟩ := hk
  rw [e0] at h0; rw [e1] at h1; rw [e2] at h2
  funext a
  match a with
  | ⟨0, _⟩ => exact Fin.ext (show (i 0).val = t * 32 + c.val by omega)
  | ⟨1, _⟩ => exact Fin.ext (show (i 1).val = h.val by omega)
  | ⟨2, _⟩ => exact Fin.ext (show (i 2).val = w.val by omega)

/-- A grid point as a batch number. -/
abbrev batch (t : Fin cfg0.N) : Fin 16 := ⟨t.val, t.isLt⟩

theorem emb0 (t : Fin cfg0.N) (c : Fin 32) (h w : Fin 128) :
    ((cfg0.win 0).blk t).view.emb (ix3 c h w) = (ix3 ⟨(batch t).val * 32 + c.val, by omega⟩ h w : S512x128x128.Idx) :=
  place (batch t).isLt c h w (fun a => win0_0.index t a) (index0 t) _ rfl rfl rfl
theorem emb1 (t : Fin cfg0.N) (c : Fin 32) (h w : Fin 128) :
    ((cfg0.win 1).blk t).view.emb (ix3 c h w) = (ix3 ⟨(batch t).val * 32 + c.val, by omega⟩ h w : S512x128x128.Idx) :=
  place (batch t).isLt c h w (fun a => win0_1.index t a) (index1 t) _ rfl rfl rfl
theorem emb2 (t : Fin cfg0.N) (c : Fin 32) (h w : Fin 128) :
    ((cfg0.win 2).blk t).view.emb (ix3 c h w) = (ix3 ⟨(batch t).val * 32 + c.val, by omega⟩ h w : S512x128x128.Idx) :=
  place (batch t).isLt c h w (fun a => win0_2.index t a) (index2 t) _ rfl rfl rfl
theorem emb3 (t : Fin cfg0.N) (c : Fin 32) (h w : Fin 128) :
    ((cfg0.win 3).blk t).view.emb (ix3 c h w) = (ix3 ⟨(batch t).val * 32 + c.val, by omega⟩ h w : S512x128x128.Idx) :=
  place (batch t).isLt c h w (fun a => win0_3.index t a) (index3 t) _ rfl rfl rfl
theorem emb4 (t : Fin cfg0.N) (c : Fin 32) (h w : Fin 128) :
    ((cfg0.win 4).blk t).view.emb (ix3 c h w) = (ix3 ⟨(batch t).val * 32 + c.val, by omega⟩ h w : S512x128x128.Idx) :=
  place (batch t).isLt c h w (fun a => win0_4.index t a) (index4 t) _ rfl rfl rfl
theorem emb5 (t : Fin cfg0.N) (c : Fin 32) (h w : Fin 128) :
    ((cfg0.win 5).blk t).view.emb (ix3 c h w) = (ix3 ⟨(batch t).val * 32 + c.val, by omega⟩ h w : S512x128x128.Idx) :=
  place (batch t).isLt c h w (fun a => win0_5.index t a) (index5 t) _ rfl rfl rfl

/-- The recurrence of the arguments as launched. -/
def want (c : Dev nD) : S512x128x128.Idx → F .f32 :=
  Recur.result (m ((c : Thread nD τ).loc main_arg0)) (m ((c : Thread nD τ).loc main_arg1))
    (m ((c : Thread nD τ).loc main_arg2)) (m ((c : Thread nD τ).loc main_arg3)) (m ((c : Thread nD τ).loc main_arg4))

theorem want_apply (c : Dev nD) (t : Fin 16) (b : Fin 32) (h w : Fin 128) :
    want m c (ix3 ⟨t.val * 32 + b.val, by omega⟩ h w)
      = Recur.chan (m ((c : Thread nD τ).loc main_arg0)) (m ((c : Thread nD τ).loc main_arg1))
          (m ((c : Thread nD τ).loc main_arg2)) (m ((c : Thread nD τ).loc main_arg3))
          (m ((c : Thread nD τ).loc main_arg4)) t b (w.val + 1) h := by
  have e1 : (t.val * 32 + b.val) / 32 = t.val := by omega
  have e2 : (t.val * 32 + b.val) % 32 = b.val := by omega
  unfold want Recur.result
  exact congrArg₂ (fun p q => Recur.chan _ _ _ _ _ p q (w.val + 1) h) (Fin.ext e1) (Fin.ext e2)

/-- What a point leaves in its block. -/
theorem outs_apply (c : Dev nD) (t : Fin cfg0.N) (b : Fin 32) (h w : Fin 128) :
    outsAt0 m c t (ix3 b h w) = want m c (ix3 ⟨(batch t).val * 32 + b.val, by omega⟩ h w) := by
  have l0 := blockLane_merged (m ((c : Thread nD τ).loc main_arg0)) (iblk m c 0 t) (batch t) (fun b h w =>
    (congrArg (V m c main_v0) (emb0 t b h w)).trans (congrFun (given0 m c) _)) b
  have l1 := blockLane_merged (m ((c : Thread nD τ).loc main_arg1)) (iblk m c 1 t) (batch t) (fun b h w =>
    (congrArg (V m c main_v1) (emb1 t b h w)).trans (congrFun (given1 m c) _)) b
  have l2 := blockLane_merged (m ((c : Thread nD τ).loc main_arg2)) (iblk m c 2 t) (batch t) (fun b h w =>
    (congrArg (V m c main_v2) (emb2 t b h w)).trans (congrFun (given2 m c) _)) b
  have l3 := blockLane_merged (m ((c : Thread nD τ).loc main_arg3)) (iblk m c 3 t) (batch t) (fun b h w =>
    (congrArg (V m c main_v3) (emb3 t b h w)).trans (congrFun (given3 m c) _)) b
  have l4 := blockLane_merged (m ((c : Thread nD τ).loc main_arg4)) (iblk m c 4 t) (batch t) (fun b h w =>
    (congrArg (V m c main_v4) (emb4 t b h w)).trans (congrFun (given4 m c) _)) b
  rw [want_apply]
  unfold outsAt0
  rw [out_eq]
  show Recur.column (fun w k => FloatOps.mulf (blockLane (iblk m c 0 t) b w k) (blockLane (iblk m c 1 t) b w k))
    (blockLane (iblk m c 2 t) b) (blockLane (iblk m c 3 t) b) (blockLane (iblk m c 4 t) b) (w.val + 1) h = _
  rw [l0, l1, l2, l3, l4]
  rfl

/-- What a point writes back is its block of the recurrence. -/
theorem flushed_eq (c : Dev nD) (t : Fin cfg0.N) :
    (dats m 0 c).flushed 5 t = ((cfg0.win 5).blk t).view.read (Elt F) (want m c) := by
  rw [flushed5]
  funext j
  show outsAt0 m c t j = want m c (((cfg0.win 5).blk t).view.emb j)
  rw [eq_ix3 (n0 := 32) (n1 := 128) (n2 := 128) j]
  exact (outs_apply m c t _ _ _).trans (congrArg (want m c) (emb5 t _ _ _)).symm

/-- Every entry of the result array is in some point's block. -/
theorem covered (i : S512x128x128.Idx) :
    ∃ t : Fin cfg0.N, (cfg0.win 5).flush t = true ∧ i ∈ ((cfg0.win 5).blk t).view.set := by
  have hi : (i 0).val < 512 := (i 0).isLt
  have ht : (i 0).val / 32 < 16 := by omega
  refine ⟨(⟨(i 0).val / 32, ht⟩ : Fin cfg0.N), flush0_5 _, ?_⟩
  have h := ((cfg0.win 5).blk (⟨(i 0).val / 32, ht⟩ : Fin cfg0.N)).view.emb_mem_set
    (ix3 ⟨(i 0).val % 32, by omega⟩ (i 1) (i 2) : S32x128x128.Idx)
  have e : ((cfg0.win 5).blk (⟨(i 0).val / 32, ht⟩ : Fin cfg0.N)).view.emb
      (ix3 ⟨(i 0).val % 32, by omega⟩ (i 1) (i 2) : S32x128x128.Idx) = i := by
    refine (emb5 (⟨(i 0).val / 32, ht⟩ : Fin cfg0.N) ⟨(i 0).val % 32, by omega⟩ (i 1) (i 2)).trans (funext fun a => ?_)
    match a with
    | ⟨0, _⟩ => exact Fin.ext (show (i 0).val / 32 * 32 + (i 0).val % 32 = (i 0).val by omega)
    | ⟨1, _⟩ => rfl
    | ⟨2, _⟩ => rfl
  rwa [e] at h

/-- The kernel's run, with its result array named. -/
theorem run : θ_run defs (onTc (τ := τ) (main (F := F))) ⟨m, fun _ => 0, ρ⟩ fun r => ∀ c : Dev nD,
      r.2.mem ((c : Thread nD τ).loc main_v5) = want m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans
    ((dats m 0 c).arrAt_eq_of_cover 5 (want m c) (fun t _ => flushed_eq m c t) covered), (h c).2⟩) (run_blocks m ρ)

end Launch

end Cert.KernelIdeal.Hand

end
-- ==== Proof.lean ====
/- The five claims put together: the two frames of the kernel, the frame of the reference, and that over the extended
   reals both compute the same array (`same`). The kernel's array is read off in Whole.lean, the reference's in
   RefRun.lean; both are `Recur.result` of Math.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.RefRun
public import proofs.«01_k».proof.Proof.Whole
public import Idealize.ShloMosaic.Adequacy
public import Idealize.ShloMosaic.Init

@[expose] public section

noncomputable section

namespace Cert.Proof

open Idealize.ShloMosaic Idealize.SL.Sem Cert.Kernel

/-- The reference runs and leaves its arguments and every counter as they were. -/
theorem reference_frame : Cert.quiescent_ReferenceIdeal (hReferenceIdeal := Cert.ReferenceIdeal.Gen.facts) :=
  fun m g _ => (θ_run _ _ _).mono
    (fun r h => ⟨fun c => (h c).2, Idealize.ShloMosaic.sem_eq_zero_of_no_sems (by decide) r.2⟩)
    (Cert.ReferenceIdeal.Value.run (F := Ideal) m g)

/-- Over the extended reals the kernel and the reference compute the same array from the same arguments. -/
theorem same : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Hand.want m c, Cert.KernelIdeal.Hand.run (F := Ideal) m g,
    (θ_run _ _ _).mono (fun r h c => ⟨(h c).1.trans ?_, (h c).2⟩) (Cert.ReferenceIdeal.Value.run (F := Ideal) m' g')⟩
  obtain ⟨h0, h1, h2, h3, h4⟩ := hm c
  refine (Cert.ReferenceIdeal.Hand.out_eq m' c).trans ?_
  unfold Cert.KernelIdeal.Hand.want
  rw [h0, h1, h2, h3, h4]
  exact Cert.Recur.result_comm _ _ _ _ _

theorem claim : Cert.Claim := ⟨Cert.Kernel.Gen.facts, Cert.KernelIdeal.Gen.facts, Cert.ReferenceIdeal.Gen.facts,
  fun m g _ => Cert.Kernel.Gen.frame (F := Bits) m g, fun m g _ => Cert.KernelIdeal.Gen.frame (F := Ideal) m g,
  reference_frame, trivial, same⟩

end Cert.Proof

end
